-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x200 : Shape := ⟨2, ![16384, 200]⟩
abbrev S1000x1 : Shape := ⟨2, ![1000, 1]⟩
abbrev S1000 : Shape := ⟨1, ![1000]⟩
abbrev S_ : Shape := ⟨0, ![]⟩

abbrev nBuf : Table → Nat
  | .hbm => 5
  | .shared => 1
  | _ => 0

abbrev bufTy : (tb : Table) → Fin (nBuf tb) → BufTy
  | .hbm, ⟨0, _⟩ => ⟨S16384x200, .i32⟩
  | .hbm, ⟨1, _⟩ => ⟨S1000x1, .f32⟩
  | .hbm, ⟨2, _⟩ => ⟨S1000, .f32⟩
  | .hbm, ⟨3, _⟩ => ⟨S1000, .f32⟩
  | .hbm, ⟨4, _⟩ => ⟨S1000x1, .f32⟩
  | .shared, ⟨0, _⟩ => ⟨S1000, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scs : Ref sig .scScalar := ⟨.hbm, 2, rfl⟩
abbrev main_v1_scs : Ref sig .scScalar := ⟨.hbm, 3, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16384x200 : Shape := ⟨2, ![16384, 200]⟩
abbrev S1000x1 : Shape := ⟨2, ![1000, 1]⟩
abbrev S1000 : Shape := ⟨1, ![1000]⟩
abbrev S_ : Shape := ⟨0, ![]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1000x1, .f32⟩
  | .hbm, ⟨2, _⟩ => ⟨S1000, .i32⟩
  | .hbm, ⟨3, _⟩ => ⟨S_, .i32⟩
  | .hbm, ⟨4, _⟩ => ⟨S1000, .i32⟩
  | .hbm, ⟨5, _⟩ => ⟨S1000, .i1⟩
  | .hbm, ⟨6, _⟩ => ⟨S_, .i32⟩
  | .hbm, ⟨7, _⟩ => ⟨S1000, .i32⟩
  | .hbm, ⟨8, _⟩ => ⟨S1000, .i32⟩
  | .hbm, ⟨9, _⟩ => ⟨S1000, .i32⟩
  | .hbm, ⟨10, _⟩ => ⟨S1000x1, .i32⟩
  | .hbm, ⟨11, _⟩ => ⟨S1, .i32⟩
  | .hbm, ⟨12, _⟩ => ⟨S_, .i32⟩
  | .hbm, ⟨13, _⟩ => ⟨S1000x1, .i32⟩
  | .hbm, ⟨14, _⟩ => ⟨S1000x1, .i1⟩
  | .hbm, ⟨15, _⟩ => ⟨S1x1, .i32⟩
  | .hbm, ⟨16, _⟩ => ⟨S1000x1, .i32⟩
  | .hbm, ⟨17, _⟩ => ⟨S1000x1, .i1⟩
  | .hbm, ⟨18, _⟩ => ⟨S1000x1, .i1⟩
  | .hbm, ⟨19, _⟩ => ⟨S_, .i1⟩
  | .hbm, ⟨20, _⟩ => ⟨S1000, .i1⟩
  | .hbm, ⟨21, _⟩ => ⟨S1000x1, .f32⟩
  | .hbm, ⟨22, _⟩ => ⟨S1000x1, .i1⟩
  | .hbm, ⟨23, _⟩ => ⟨S_, .f32⟩
  | .hbm, ⟨24, _⟩ => ⟨S1000x1, .f32⟩
  | .hbm, ⟨25, _⟩ => ⟨S1000x1, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Lookup.lean ====
/-
  The table lookup on the SparseCore, run once over any float values `F`.

  @main flattens the table `[1000, 1]` to `[1000]`, starts one scalar-subcore kernel on SparseCore 0, and gives the kernel's
  result the shape `[1000, 1]` again. The kernel copies the flat table into the SparseCore's shared vector memory and from
  there into the result, each copy waited for on a semaphore of its own before the next begins.

  What is proved: every weakly fair execution of all the threads ends, without fault, with both arguments unchanged, the
  result equal to the table element by element, and every semaphore counter at zero (`run_main`). The value is carried
  through the kernel's own run (`staged_copy`): its post names the result's contents, not only that there are some.
-/
module

public import proofs.«01_k».proof.Defs
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Pipeline.Value
public import Idealize.ShloMosaic.Lib.Tactic

@[expose] public section

noncomputable section

namespace Cert.Lookup

open Cert.KernelIdeal Cert.KernelIdeal.Gen

open Idealize.ShloMosaic
open Idealize.ShloMosaic.SparseCore (S)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type}

/-! ## The launch's data -/

abbrev K : SparseCore.Cfg τ sig (Pipeline.Sig Λ₀ (Fin 0) fun p => (pcfgs (F := F) p).Adm) 1 := sc (F := F)
abbrev D [FloatOps F] : Defs nD τ sig (Elt F) (Pipeline.Sig Λ₀ (Fin 0) fun p => (pcfgs (F := F) p).Adm) := Pipeline.defs pcfgs defs₀
abbrev 𝒱 : Variants := Variants.none.lift

/-- The launch semaphores are distinct where they must be and none is a kernel's own; no buffer is reassigned per task. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Ghost state: the handshakes' rounds, and the counters of the local copies. -/
abbrev Ghost : Type := URounds (GSem nD τ sig) ℕ × Counters

local notation "𝕄" => MT nD τ sig (HIx 1) (Elt F) ℕ Ghost ℕ

abbrev EH : Emb (URounds (GSem nD τ sig) ℕ) (MT nD τ sig (HIx 1) (Elt F) ℕ Ghost ℕ) := embL

/-! ## The arrays -/

/-- The flat table and the kernel's result, as arrays of device `d`; SparseCore `c`'s staging buffer. -/
abbrev flatLoc (d : Dev nD) : Loc nD τ sig := (SparseCore.T d).loc main_v0
abbrev outLoc (d : Dev nD) : Loc nD τ sig := (SparseCore.T d).loc main_v1
abbrev stageLoc (d : Dev nD) (c : Fin τ.nSC) : Loc nD τ sig := (S d c).loc cc0_scratch0

/-- An array of 1000 floats. -/
abbrev Row (F : FTy → Type) : Type := FVec F S1000 .f32
/-- The table, one float per row. -/
abbrev Table (F : FTy → Type) : Type := FVec F S1000x1 .f32

-- the kernel's memory references as the body table passes them
local notation "flatM" => (Memref.whole Cert.KernelIdeal.main_v0_scs : Memref Cert.KernelIdeal.sig Kind.scScalar Space.hbm Cert.KernelIdeal.S1000 EltTy.f32)
local notation "outM" => (Memref.whole Cert.KernelIdeal.main_v1_scs : Memref Cert.KernelIdeal.sig Kind.scScalar Space.hbm Cert.KernelIdeal.S1000 EltTy.f32)
local notation "stageM" => (Memref.whole Cert.KernelIdeal.cc0_scratch0 : Memref Cert.KernelIdeal.sig Kind.scScalar Space.shared Cert.KernelIdeal.S1000 EltTy.f32)

variable (m : (ℓ : Loc nD τ sig) → Buf (Elt F) ℓ) (ρ : Dev nD → PrngReg)

/-- The table as @main gets it on device `d`, and flattened. -/
def table (d : Dev nD) : Table F := m ((SparseCore.T d).loc main_arg1)
def flat (d : Dev nD) : Row F := shapeCast S1000 (table m d) shapeCasts_S1000x1_S1000

variable [FloatOps F]

/-- The call hands SparseCore 0's sequencer the flat table and the result's array at whatever it holds, and takes both
    back, each at the flat table's contents. -/
def P : (K (F := F)).Pay (nD := nD) (Val := Elt F) (Name := ℕ) (U := Ghost) where
  st := fun _ d _ => iprop((flatLoc d ↦{fullShare} flat m d) ∗ ∃ f, outLoc d ↦{fullShare} f)
  dn := fun _ d _ => iprop((flatLoc d ↦{fullShare} flat m d) ∗ outLoc d ↦{fullShare} flat m d)
  go := fun _ _ _ _ => iprop(emp)
  td := fun _ _ _ _ => iprop(emp)
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

/-! ## The kernel on the sequencer -/

section Body

variable (d : Dev nD)

/-- The grid's one point. -/
def point (c : Fin (grid0.bound 0)) : grid0.Coords := fun | 0 => c | ⟨_ + 1, h⟩ => absurd h (Nat.not_lt.2 (Nat.le_add_left _ _))

/-- The sequencer that runs it. -/
abbrev seqr (c : Fin (grid0.bound 0)) : Thread nD τ := S d (c.castLE hcore0)

/-- The cells of the copy in and of the copy out. -/
abbrev cellIn (thr : Thread nD τ) : GSem nD τ sig := (thr, .dma cc0_scoped0.sem)
abbrev cellOut (thr : Thread nD τ) : GSem nD τ sig := (thr, .dma cc0_scoped1.sem)

/-- A whole buffer written from a whole buffer holds the source's contents: after the first copy the staging buffer, after
    the second the result. -/
theorem stage_eq (f h : Row F) : View.write (Elt F) (stageM).view h (View.read (Elt F) (flatM).view f) Finset.univ = f :=
  View.write_whole_univ _ _ _
theorem out_eq (f g h : Row F) :
    View.write (Elt F) (outM).view g (View.read (Elt F) (stageM).view (View.write (Elt F) (stageM).view h (View.read (Elt F) (flatM).view f) Finset.univ))
      Finset.univ = f :=
  (View.write_whole_univ _ _ _).trans (stage_eq f h)

/-- The two copies, from the flat table at `f`: the result ends at `f`, and so does the staging buffer; both cells are at
    zero again. -/
theorem staged_copy (c : Fin (grid0.bound 0)) (O : CellTallies nD τ sig (HIx 1)) (W : Waits sig (HIx 1)) (f g h : Row F) :
    (iprop(Transfers.MayWaits (seqr d c) (none : HIx 1) O
        ∗ ((flatM).view.loc (seqr d c) ↦{fullShare} f)
        ∗ ((outM).view.loc (seqr d c) ↦{fullShare} g)
        ∗ ((stageM).view.loc (seqr d c) ↦{fullShare} h)
        ∗ semVal (cellIn (seqr d c)) 0 ∗ semVal (cellOut (seqr d c)) 0
        ∗ owes (seqr d c) O W) : sProp 𝕄)
      ⊢ wp frame (wpE (defs₀ (F := F)) Variants.none (seqr d c) none) Set.univ
          (cc0__sc_lookup (point c) flatM (Memref.isWhole_whole _) outM (Memref.isWhole_whole _) stageM (Memref.isWhole_whole _) cc0_scoped0 cc0_scoped1)
          fun _ => iprop(((flatM).view.loc (seqr d c) ↦{fullShare} f)
            ∗ ((outM).view.loc (seqr d c) ↦{fullShare} f)
            ∗ ((stageM).view.loc (seqr d c) ↦{fullShare} f)
            ∗ semVal (cellIn (seqr d c)) 0 ∗ semVal (cellOut (seqr d c)) 0
            ∗ ∃ W', owes (seqr d c) O W') := by
  iintro ⟨#Hmw, Hflat, Hout, Hstage, Hin, Hcout, HO⟩
  sl_unfold [cc0__sc_lookup]
  sl_exec
  sl_step
  isplitl [Hflat]; · iexact Hflat
  isplitl [Hout]
  · iapply (Entails.of_eq (congrArg (fun w : Row F => ((outM).view.loc (seqr d c) ↦{fullShare} w : sProp 𝕄)) (out_eq f g h))); iexact Hout
  isplitl [Hstage]
  · iapply (Entails.of_eq (congrArg (fun w : Row F => ((stageM).view.loc (seqr d c) ↦{fullShare} w : sProp 𝕄)) (stage_eq f h))); iexact Hstage
  isplitl [Hin]; · iexact Hin
  isplitl [Hcout]; · iexact Hcout
  iexists _; iexact HO

/-! ### The kernel in the launch's terms -/

omit [FloatOps F] in
/-- The arrays as the sequencer's references name them are @main's arrays, and the staging buffer its own. -/
theorem flat_pts (c : Fin τ.nSC) (f : Row F) : ((flatM).view.loc (S d c) ↦{fullShare} f : sProp 𝕄) = flatLoc d ↦{fullShare} f := rfl
omit [FloatOps F] in
theorem out_pts (c : Fin τ.nSC) (f : Row F) : ((outM).view.loc (S d c) ↦{fullShare} f : sProp 𝕄) = outLoc d ↦{fullShare} f := rfl
omit [FloatOps F] in
theorem stage_pts (c : Fin τ.nSC) (f : Row F) : ((stageM).view.loc (S d c) ↦{fullShare} f : sProp 𝕄) = stageLoc d c ↦{fullShare} f := rfl

omit [FloatOps F] in
/-- Among the sequencer's own buffers: the staging buffer. -/
theorem ownBufs_stage (c : Fin τ.nSC) : ∃ R : sProp 𝕄, (ownBufs (S d c) : sProp 𝕄) = iprop((∃ f, stageLoc d c ↦{fullShare} f) ∗ R) :=
  ⟨_, SparseCore.bigSep_erase' ((mem_ownRefs (p := Proc.scScalar c) (b := (Proc.scScalar c).devRef cc0_scratch0)).mpr rfl)⟩

omit [FloatOps F] in
/-- Among its own cells at zero: the two copies' cells. -/
theorem ownSems0_pair (c : Fin τ.nSC) :
    ∃ R : sProp 𝕄, (ownSems0 (S d c) : sProp 𝕄) = iprop(semVal (cellIn (S d c)) 0 ∗ semVal (cellOut (S d c)) 0 ∗ R) := by
  have hown : ∀ s : DmaSem sig, ((S d c, .dma s) : GSem nD τ sig) ∈ ownCells (S d c) := fun s =>
    mem_ownCells.mpr ⟨rfl, (show ∀ s : DmaSem sig, (SemLoc.dma s : SemLoc sig).isScoped .scScalar = true by decide) s⟩
  have hne : cellOut (S d c) ≠ cellIn (S d c) := fun h =>
    (show (SemLoc.dma cc0_scoped1.sem : SemLoc sig) ≠ .dma cc0_scoped0.sem by decide) (congrArg Prod.snd h)
  exact ⟨_, (SparseCore.bigSep_erase' (hown cc0_scoped0.sem)).trans
    (congrArg _ (SparseCore.bigSep_erase' (Finset.mem_erase.mpr ⟨hne, hown cc0_scoped1.sem⟩)))⟩

/-- The kernel's run from what the launch hands the sequencer: its scoped buffers and cells opened at the staging buffer
    and the two cells, `staged_copy`, and all of it closed again. -/
theorem sequencer_run (c : Fin (grid0.bound 0)) (O : CellTallies nD τ sig (HIx 1)) (W : Waits sig (HIx 1)) (hO : ∀ g, O g none = 0) :
    (iprop(levAts (K (F := F)).L (K (F := F)).lev ∗ emp ∗ ((flatLoc d ↦{fullShare} flat m d) ∗ ∃ f, outLoc d ↦{fullShare} f)
        ∗ scopedBufs (seqr d c) ∗ scopedSems0 (seqr d c) ∗ owes (seqr d c) O W) : sProp 𝕄)
      ⊢ wp frame (wpE (defs₀ (F := F)) Variants.none (seqr d c) none) Set.univ
          (cc0__sc_lookup (point c) flatM (Memref.isWhole_whole _) outM (Memref.isWhole_whole _) stageM (Memref.isWhole_whole _) cc0_scoped0 cc0_scoped1)
          fun _ => iprop(((flatLoc d ↦{fullShare} flat m d) ∗ outLoc d ↦{fullShare} flat m d) ∗ scopedBufs (seqr d c) ∗ scopedSems0 (seqr d c)
            ∗ ∃ W', ⌜∀ p ∈ W', p ∈ W ∨ p.2 = none ∨ p.2 = some (0 : Fin 1)⌝ ∗ owes (seqr d c) O W') := by
  obtain ⟨RB, hRB⟩ := ownBufs_stage (F := F) d (c.castLE hcore0)
  obtain ⟨RS, hRS⟩ := ownSems0_pair (F := F) d (c.castLE hcore0)
  rw [(K (F := F)).scopedBufs_S launchFacts d _, SparseCore.Cfg.scopedSems0_S (Val := Elt F) d _, hRB, hRS]
  iintro ⟨#Hlv, -, ⟨Hflat, %g, Hout⟩, ⟨⟨⟨%h, Hstage⟩, HRB⟩, Htiles⟩, ⟨⟨Hin, Hcout, HRS⟩, HtileSems⟩, HO⟩
  ihave Hmw := ((K (F := F)).mayWaits_none (thr := seqr d c) hO) $$ Hlv
  iapply (wp_wand_r Idealize.ShloMosaic.frame (wpE (defs₀ (F := F)) Variants.none (seqr d c) none) Set.univ)
  isplitl [Hflat Hout Hstage Hin Hcout HO]
  · iapply (staged_copy d c O W (flat m d) g h)
    isplitr; · iexact Hmw
    isplitl [Hflat]; · iapply (Entails.of_eq (flat_pts (F := F) d _ _).symm); iexact Hflat
    isplitl [Hout]; · iapply (Entails.of_eq (out_pts (F := F) d _ _).symm); iexact Hout
    isplitl [Hstage]; · iapply (Entails.of_eq (stage_pts (F := F) d _ _).symm); iexact Hstage
    isplitl [Hin]; · iexact Hin
    isplitl [Hcout]; · iexact Hcout
    iexact HO
  iintro %_ ⟨Hflat, Hout, Hstage, Hin, Hcout, %W', HO⟩
  isplitl [Hflat Hout]
  · isplitl [Hflat]; · iapply (Entails.of_eq (flat_pts (F := F) d _ _)); iexact Hflat
    iapply (Entails.of_eq (out_pts (F := F) d _ _)); iexact Hout
  isplitl [Hstage HRB Htiles]
  · isplitl [Hstage HRB]
    · isplitl [Hstage]; · iexists _; iapply (Entails.of_eq (stage_pts (F := F) d _ _)); iexact Hstage
      iexact HRB
    iexact Htiles
  isplitl [Hin Hcout HRS HtileSems]
  · isplitl [Hin Hcout HRS]
    · isplitl [Hin]; · iexact Hin
      isplitl [Hcout]; · iexact Hcout
      iexact HRS
    iexact HtileSems
  iexists W'; isplitr
  · ipureintro
    exact fun p _ => .inr (match p.2 with | none => .inl rfl | some q => .inr (congrArg some (Subsingleton.elim q 0)))
  · iexact HO

end Body

/-- The launch's obligation at its one call. -/
theorem callObl : (K (F := F)).ScalarObl (D (F := F)) 𝒱 (P m) (Sum.inl none) 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) Variants.none _ Set.univ none _ _)
  have hc : ((K (F := F)).core 0 c).val < grid0.bound 0 := c.isLt
  rw [show defs₀ (F := F) (.scScalar ((K (F := F)).core 0 c)) 0 ()
      = SparseCore.onCore hcore0 (fun c => cc0__sc_lookup (point c) flatM (Memref.isWhole_whole _) outM (Memref.isWhole_whole _)
          stageM (Memref.isWhole_whole _) cc0_scoped0 cc0_scoped1) ⟨⟩ ((K (F := F)).core 0 c) from rfl]
  simp only [SparseCore.onCore, hc, ↓reduceDIte]
  exact sequencer_run m d ⟨_, hc⟩ O W hO

/-! ## @main on the TensorCore -/

/-- @main's two reshapes. -/
abbrev opFlatten : HloOp τ sig (Elt F) := StableHlo.reshape main_arg1 main_v0 (rfl : (.f32 : EltTy) = .f32) shapeCasts_S1000x1_S1000
abbrev opUnflatten : HloOp τ sig (Elt F) := StableHlo.reshape main_v1 main_v2 (rfl : (.f32 : EltTy) = .f32) shapeCasts_S1000_S1000x1

/-- The arrays of @main. -/
abbrev bArg0 : DevRef τ sig := Proc.devRef .tc (main_arg0 : Ref sig .tc)
abbrev bArg1 : DevRef τ sig := Proc.devRef .tc (main_arg1 : Ref sig .tc)
abbrev bFlat : DevRef τ sig := Proc.devRef .tc (main_v0 : Ref sig .tc)
abbrev bOut : DevRef τ sig := Proc.devRef .tc (main_v1 : Ref sig .tc)
abbrev bRes : DevRef τ sig := Proc.devRef .tc (main_v2 : Ref sig .tc)
abbrev all : Finset (DevRef τ sig) := {bArg0, bArg1, bFlat, bOut, bRes}

omit [FloatOps F] in
theorem held_all (d : Dev nD) (W : Valuation τ sig (Elt F)) :
    (held (SparseCore.T d) all W : sProp 𝕄)
      = iprop(((SparseCore.T d).loc main_arg0 ↦{fullShare} W bArg0) ∗ ((SparseCore.T d).loc main_arg1 ↦{fullShare} W bArg1)
          ∗ (flatLoc d ↦{fullShare} W bFlat) ∗ (outLoc d ↦{fullShare} W bOut) ∗ (SparseCore.T d).loc main_v2 ↦{fullShare} W bRes) := by
  unfold held all
  rw [SparseCore.bigSep_insert' (by decide), SparseCore.bigSep_insert' (by decide), SparseCore.bigSep_insert' (by decide),
    SparseCore.bigSep_insert' (by decide), bigSep_singleton]

/-- The arrays' contents at @main's start, after the first reshape, after the kernel, and at the end. -/
def W0 (d : Dev nD) : Valuation τ sig (Elt F) := fun b => m (d, b)
def W1 (d : Dev nD) : Valuation τ sig (Elt F) := (opFlatten (F := F)).result (W0 m d)
def W2 (d : Dev nD) : Valuation τ sig (Elt F) := Function.update (W1 m d) bOut (flat m d)
def W3 (d : Dev nD) : Valuation τ sig (Elt F) := (opUnflatten (F := F)).result (W2 m d)

theorem W1_of_ne (d : Dev nD) {b : DevRef τ sig} (h : b ≠ bFlat) : W1 m d b = m (d, b) :=
  (opFlatten (F := F)).result_of_not_mem _ fun hb => h (Finset.mem_singleton.mp hb)
theorem W1_flat (d : Dev nD) : W1 m d bFlat = flat m d := StableHlo.reshape_result main_arg1 main_v0 rfl shapeCasts_S1000x1_S1000 _ _ (W0 m d)
theorem W2_of_ne (d : Dev nD) {b : DevRef τ sig} (h : b ≠ bOut) : W2 m d b = W1 m d b := Function.update_of_ne h _ _
theorem W2_out (d : Dev nD) : W2 m d bOut = flat m d := Function.update_self _ _ _
theorem W3_of_ne (d : Dev nD) {b : DevRef τ sig} (h : b ≠ bRes) : W3 m d b = W2 m d b :=
  (opUnflatten (F := F)).result_of_not_mem _ fun hb => h (Finset.mem_singleton.mp hb)
/-- Flattened and given its shape back, the table is itself. -/
theorem W3_res (d : Dev nD) : W3 m d bRes = table m d := by
  refine (StableHlo.reshape_result main_v1 main_v2 rfl shapeCasts_S1000_S1000x1 _ _ (W2 m d)).trans ?_
  rw [W2_out]
  exact shapeCast_shapeCast _ _ _

omit [FloatOps F] in
theorem arrays_held (d : Dev nD) : (unscopedBufs d (fun b => m ((SparseCore.T d).loc b)) : sProp 𝕄) = held (SparseCore.T d) all (W0 m d) := by
  rw [held_all]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- What @main leaves the claim: every array at its last contents. -/
abbrev final (d : Dev nD) : sProp 𝕄 := held (SparseCore.T d) all (W3 m d)

theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ final m d ∗ (K (F := F)).tcEnd d) := by
  unfold SparseCore.Cfg.tcRes SparseCore.Cfg.tcEnd
  rw [arrays_held]
  simp only [main, wp_bind, wp_pure]
  iintro ⟨#Hctx, Hst, ⟨Hb, Hheld, Hts, -⟩, -⟩
  iapply (wp_hlo_within 𝒱 (SparseCore.T d) none Set.univ (op := opFlatten) (S := all)
    (show ({bArg1, bFlat} : Finset (DevRef τ sig)) ⊆ all by decide) (V := W0 m d)) $$ [Hb Hheld]
  · isplitl [Hb]; · iexact Hb
    iexact Hheld
  iintro ⟨Hb, Hheld⟩
  rw [wp_ret]; imodintro
  ihave Hh := (Entails.of_eq ((show held (SparseCore.T d) all ((opFlatten (F := F)).result (W0 m d)) = held (SparseCore.T d) all (W1 m d) from rfl).trans
    (held_all (F := F) d (W1 m d)))) $$ Hheld
  icases Hh with ⟨H0, H1, Hflat, Hout, H2⟩
  -- the call: the flat table and the result's array to the sequencer and back
  iapply ((K (F := F)).wp_run (D (F := F)) 𝒱 (EH := EH) (P := P m) κ d 0) $$ [Hst Hflat Hout Hb H0 H1 H2 Hts]
  isplitr; · iexact Hctx
  isplitl [Hst]; · iexact Hst
  isplitl [Hflat Hout]
  · rw [show (bigSep Finset.univ fun c : Fin ((K (F := F)).nCore 0) => (P m).st 0 d c)
        = iprop((flatLoc d ↦{fullShare} flat m d) ∗ ∃ f, outLoc d ↦{fullShare} f) from bigSep_univ_of_subsingleton (0 : Fin 1), W1_flat]
    isplitl [Hflat]; · iexact Hflat
    iexists _; iexact Hout
  iintro ⟨Hst, Hdn⟩
  ihave Hdn' := (Entails.of_eq (show (bigSep Finset.univ fun c : Fin ((K (F := F)).nCore 0) => (P m).dn 0 d c)
    = iprop((flatLoc d ↦{fullShare} flat m d) ∗ outLoc d ↦{fullShare} flat m d) from bigSep_univ_of_subsingleton (0 : Fin 1))) $$ Hdn
  icases Hdn' with ⟨Hflat, Hout⟩
  iapply (wp_hlo_within 𝒱 (SparseCore.T d) none Set.univ (op := opUnflatten) (S := all)
    (show ({bOut, bRes} : Finset (DevRef τ sig)) ⊆ all by decide) (V := W2 m d)) $$ [Hb H0 H1 Hflat Hout H2]
  · isplitl [Hb]; · iexact Hb
    rw [held_all, W2_out, W2_of_ne m d (b := bArg0) (by decide), W2_of_ne m d (b := bArg1) (by decide),
      W2_of_ne m d (b := bFlat) (by decide), W2_of_ne m d (b := bRes) (by decide), W1_flat]
    isplitl [H0]; · iexact H0
    isplitl [H1]; · iexact H1
    isplitl [Hflat]; · iexact Hflat
    isplitl [Hout]; · iexact Hout
    iexact H2
  iintro ⟨Hb, Hheld⟩
  rw [wp_ret]; imodintro; imodintro
  isplitl [Hst]; · iexact Hst
  isplitl [Hheld]; · iexact Hheld
  isplitl [Hb] <;> iassumption

/-! ## The launch's ghost state, and what the final memory is read to hold -/

def ghost₀ : Ghost := (initOf (K (F := F)).hsCells (K (F := F)).hsToks, 1)

omit [FloatOps F] in
theorem emp_sep_const {I : Type} (s : Finset I) : (bigSep s fun _ => iprop(emp)) = (iprop(emp) : sProp 𝕄) := bigSep_emp_const s

theorem ghost_split : (ownU (ghost₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold ghost₀
  iintro Hu
  ihave H := (ownU_pair (initOf (K (F := F)).hsCells (K (F := F)).hsToks) (1 : Counters)) $$ Hu
  icases H with ⟨HH, -⟩
  imodintro
  isplitl [HH]; · iexact HH
  isplitr; · rw [emp_sep_const]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_sep_const]
  iempintro

/-- The final memory on device `d`: both arguments as they were, the result the table. -/
def Fin3 (d : Dev nD) (s : Phys nD τ sig (Elt F)) : Prop :=
  s.mem.mem ((SparseCore.T d).loc main_arg0) = m ((SparseCore.T d).loc main_arg0)
    ∧ s.mem.mem ((SparseCore.T d).loc main_arg1) = m ((SparseCore.T d).loc main_arg1)
    ∧ s.mem.mem ((SparseCore.T d).loc main_v2) = table m d

theorem final_read (d : Dev nD) (s : Phys nD τ sig (Elt F)) : iprop(final m d ∗ SI s) ⊢ (⌜Fin3 m d s⌝ : sProp 𝕄) := by
  unfold final
  rw [held_all, W3_res, W3_of_ne m d (b := bArg0) (by decide), W3_of_ne m d (b := bArg1) (by decide),
    W2_of_ne m d (b := bArg0) (by decide), W2_of_ne m d (b := bArg1) (by decide),
    W1_of_ne m d (b := bArg0) (by decide), W1_of_ne m d (b := bArg1) (by decide)]
  iintro ⟨⟨H0, H1, -, -, H2⟩, HSI⟩
  icombine HSI H0 gives %h0
  icombine HSI H1 gives %h1
  icombine HSI H2 gives %h2
  ipureintro
  exact ⟨funext fun i => h0 i (Finset.mem_univ i), funext fun i => h1 i (Finset.mem_univ i), funext fun i => h2 i (Finset.mem_univ i)⟩

/-! ## The program's run -/

/-- Both arguments unchanged, the result the table, on every device; every counter zero. -/
def Post : PUnit × MemSt nD τ sig (Elt F) → Prop := fun r =>
  (∀ c : Dev nD, r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_v2) = table m c)
    ∧ r.2.sem = fun _ => 0

theorem run_main [∀ e, Nonempty (Elt F e)] : θ_run (defs (F := F)) (threads (F := F)) ⟨m, fun _ => 0, ρ⟩ (Post m) :=
  SparseCore.Cfg.θ_run_sc_quiescent (K := K (F := F)) (D := D (F := F)) (𝒱 := 𝒱) (EH := EH) (P := P m) (A := ∅) launchFacts (Sum.inl none)
    (fun q _ => match q with | 0 => callObl m)
    (fun q hq => match q with | 0 => nomatch hq)
    (fun q hq => match q with | 0 => nomatch hq)
    m ρ main (fun _ => iprop(emp)) (final m) (ghost₀ (F := F)) (sep_elim_left.trans (ghost_split m)) (main_run m ρ) (Fin3 m) (final_read m) (Post m)
    (fun _ h hz => ⟨h, hz⟩)

end Cert.Lookup

end
-- ==== Proof.Taken.lean ====
/-
  What the reference computes: `jnp.take` of the table's rows `0, 1, …, 999` in order, which is the table.

  Row `r`'s index is `r` itself (`rowIx_eq`): it is not negative, so the reading from the end never applies. It lies in
  `0 … 999`, so the bounds test passes at every row (`inBounds`) and the fill value is never taken; the gather then reads
  row `r`. Over any float values `F`: no float is computed with.
-/
module

public import proofs.«01_k».proof.Defs
public import proofs.«01_k».proof.Proof.Gen.Reference
public import proofs.«01_k».proof.Proof.Gen.ReferenceIdeal.Run
public import Idealize.ShloMosaic.Lib.ReduceAll
public import Idealize.ShloMosaic.Lib.Routing.Ops
public import Idealize.ShloMosaic.Lib.WordCmp

@[expose] public section

set_option maxRecDepth 16384

noncomputable section

namespace Cert.Taken

open Cert.ReferenceIdeal Cert.ReferenceIdeal.Gen

open Idealize.ShloMosaic Idealize.ShloMosaic.WordCmp Idealize.ShloMosaic.ValueIdx Idealize.SL.Sem

variable {F : FTy → Type} [FloatOps F]

/-- The row indices, a column: `arange(1000)`, an index below zero counted from the end. -/
def rowIx : IVec S1000x1 32 :=
  broadcastInDim S1000x1 ![0] bcast_S1000_S1000x1_0
    (select (cmpi .slt (iotaInDim S1000 32 0) (broadcastInDim S1000 ![] bcast_S_S1000 (constantI S_ 32 0#32)))
      (addi (iotaInDim S1000 32 0) (broadcastInDim S1000 ![] bcast_S_S1000 (constantI S_ 32 1000#32)))
      (iotaInDim S1000 32 0))

/-- Where an index lies in `0 … 999`. -/
def inRange : IVec S1000x1 1 :=
  andi (cmpi .sge rowIx (broadcastInDim S1000x1 ![] bcast_S_S1000x1 (constantI S_ 32 0#32)))
    (cmpi .sle rowIx (broadcastInDim S1000x1 ![0, 1] bcast_S1x1_S1000x1_0_1 (broadcastInDim S1x1 ![1] bcast_S1_S1x1_1 (constantI S1 32 999#32))))

/-- The reference's result at the table `x`. -/
def taken (x : FVec F S1000x1 .f32) : FVec F S1000x1 .f32 :=
  select (broadcastInDim S1000x1 ![0] bcast_S1000_S1000x1_0
      (Host.reduce IntOp.andi inRange (constantI S_ 1 1#1) reducesTo_S1000x1_S1000_d1 h_S_))
    (Host.gather gather_S1000x1_S1000x1_S1000x1_1_0_n_n_0_1_11 x rowIx)
    (broadcastInDim S1000x1 ![] bcast_S_S1000x1 (constant S_ .f32 0x7FC00000#32))

/-- The index at row `r` is `r`. -/
theorem rowIx_eq (i : S1000x1.Idx) : rowIx i = BitVec.ofNat 32 (i 0).val := by
  have hi : (i 0).val < 1000 := (i 0).isLt
  show Scalar.select (IntOp.cmpi .slt (BitVec.ofNat 32 (i 0).val) (BitVec.ofNat 32 0)) _ (BitVec.ofNat 32 (i 0).val) = _
  rw [(cmpi_slt_ofNat_eq_zero_iff (w := 32) (by omega) (by omega)).mpr (by omega)]
  rfl

/-- Every index is in range. -/
theorem inBounds (i : S1000x1.Idx) : inRange i = 1#1 := by
  have hi : (i 0).val < 1000 := (i 0).isLt
  show IntOp.andi (IntOp.cmpi .sge (rowIx i) (BitVec.ofNat 32 0)) (IntOp.cmpi .sle (rowIx i) (BitVec.ofNat 32 999)) = 1#1
  rw [rowIx_eq, (cmpi_sge_ofNat_eq_one_iff (w := 32) (by omega) (by omega)).mpr (by omega),
    (cmpi_sle_ofNat_eq_one_iff (w := 32) (by omega) (by omega)).mpr (by omega)]
  rfl

/-- A choice whose condition holds takes its first side. -/
theorem select_of_one {s : Shape} {α : Type} (c : IVec s 1) (a b : s.Idx → α) (i : s.Idx) (h : c i = 1#1) : select c a b i = a i := by
  unfold select Scalar.select
  exact if_pos h

/-- The bounds test passes at every row. -/
theorem mask_one (i : S1000x1.Idx) :
    broadcastInDim S1000x1 ![0] bcast_S1000_S1000x1_0
      (Host.reduce IntOp.andi inRange (constantI S_ 1 1#1) reducesTo_S1000x1_S1000_d1 h_S_) i = 1#1 := by
  unfold broadcastInDim
  exact Host.reduce_andi_one _ _ _ _ _ rfl inBounds

/-- The gather reads row `r` at row `r`. -/
theorem gathered (x : FVec F S1000x1 .f32) (r : Fin 1000) (z : Fin 1) :
    Host.gather gather_S1000x1_S1000x1_S1000x1_1_0_n_n_0_1_11 x rowIx (ix2 r z) = x (ix2 r z) :=
  Routing.gather_row _ rfl rfl rfl rfl rfl x rowIx r z r (rowIx_eq _) (by decide)

/-- Taking every row in order gives the table. -/
theorem taken_eq (x : FVec F S1000x1 .f32) : taken x = x := by
  funext i
  unfold taken
  rw [select_of_one _ _ _ i (mask_one i), eq_ix2 i]
  exact gathered x _ _

/-- Every weakly fair execution of the reference ends with the table as its result, both arguments unchanged, and every
    counter at zero (it declares no semaphore). -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v1) = m ((c.tc : Thread nD τ).loc main_arg1))
      ∧ r.2.sem = fun _ => 0 :=
  (θ_run defs _ _).mono
    (fun r h => ⟨fun c => ⟨(h c).2.1, (h c).2.2, (h c).1.trans (taken_eq (m ((c.tc : Thread nD τ).loc main_arg1)))⟩,
      sem_eq_zero_of_no_sems (by decide) r.2⟩)
    (Value.run m ρ)

end Cert.Taken

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Lookup
public import proofs.«01_k».proof.Proof.Taken
public import Idealize.ShloMosaic.Adequacy
public import Idealize.ShloMosaic.Init

@[expose] public section

noncomputable section

namespace Cert.Proof

open Idealize.ShloMosaic Idealize.SL.Sem

/-- The kernel as printed ends quiescent, its arguments unchanged. -/
theorem kernel_frame : Cert.quiescent_Kernel := fun m ρ _ =>
  (θ_run Cert.KernelIdeal.defs _ _).mono (fun _ h => ⟨fun c => ⟨(h.1 c).1, (h.1 c).2.1⟩, h.2⟩) (Lookup.run_main (F := Bits) m ρ)

/-- So does the kernel at the ideal values, -/
theorem kernelIdeal_frame : Cert.quiescent_KernelIdeal := fun m ρ _ =>
  (θ_run Cert.KernelIdeal.defs _ _).mono (fun _ h => ⟨fun c => ⟨(h.1 c).1, (h.1 c).2.1⟩, h.2⟩) (Lookup.run_main (F := Ideal) m ρ)

/-- the reference at the ideal values, -/
theorem referenceIdeal_frame : Cert.quiescent_ReferenceIdeal := fun m ρ _ =>
  (θ_run Cert.ReferenceIdeal.defs _ _).mono (fun _ h => ⟨fun c => ⟨(h.1 c).1, (h.1 c).2.1⟩, h.2⟩) (Taken.run_main (F := Ideal) m ρ)

/-- and the reference as printed. -/
theorem reference_frame : Cert.quiescent_Reference := fun m ρ _ =>
  (θ_run Cert.ReferenceIdeal.defs _ _).mono (fun _ h => ⟨fun c => ⟨(h.1 c).1, (h.1 c).2.1⟩, h.2⟩) (Taken.run_main (F := Bits) m ρ)

/-- At the ideal values the two results are equal: each is the table. -/
theorem algebraic : Cert.algebraic_KernelIdeal_ReferenceIdeal := by
  intro m ρ m' ρ' _ hargs
  refine ⟨Lookup.table m, ?_, ?_⟩
  · exact (θ_run Cert.KernelIdeal.defs _ _).mono (fun _ h c => ⟨(h.1 c).2.2, (h.1 c).1, (h.1 c).2.1⟩) (Lookup.run_main (F := Ideal) m ρ)
  · exact (θ_run Cert.ReferenceIdeal.defs _ _).mono (fun _ h c => ⟨(h.1 c).2.2.trans (hargs c).2, (h.1 c).1, (h.1 c).2.1⟩)
      (Taken.run_main (F := Ideal) m' ρ')

/-- And bit for bit as printed. -/
theorem bitexact : Cert.bitexact_Kernel_Reference := by
  intro m ρ m' ρ' _ hargs
  refine ⟨Lookup.table (F := Bits) m, ?_, ?_⟩
  · exact (θ_run Cert.KernelIdeal.defs _ _).mono (fun _ h c => ⟨(h.1 c).2.2, (h.1 c).1, (h.1 c).2.1⟩) (Lookup.run_main (F := Bits) m ρ)
  · exact (θ_run Cert.ReferenceIdeal.defs _ _).mono (fun _ h c => ⟨(h.1 c).2.2.trans (hargs c).2, (h.1 c).1, (h.1 c).2.1⟩)
      (Taken.run_main (F := Bits) m' ρ')

theorem claim : Cert.Claim := ⟨Cert.Kernel.Gen.facts, Cert.KernelIdeal.Gen.facts, Cert.ReferenceIdeal.Gen.facts, Cert.Reference.Gen.facts,
  kernel_frame, kernelIdeal_frame, referenceIdeal_frame, reference_frame, trivial, algebraic, bitexact⟩

end Cert.Proof

end
